-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x4166D4CA#32 ((((13421773 / 134217728) * (Real.log 2))⁻¹ : ℝ) : EReal)
  ∧ IdealRules.named_const.Statement Cert.KernelIdeal.κ "neg_big" .f32 0xC6EA6000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x64x80x80 : Shape := ⟨4, ![2, 64, 80, 80]⟩
abbrev S2x80x80 : Shape := ⟨3, ![2, 80, 80]⟩
abbrev S_ : Shape := ⟨0, ![]⟩
abbrev S2x64x6400 : Shape := ⟨3, ![2, 64, 6400]⟩
abbrev S10x1x1280 : Shape := ⟨3, ![10, 1, 1280]⟩
abbrev S1x64x1280 : Shape := ⟨3, ![1, 64, 1280]⟩
abbrev S1x1x1280 : Shape := ⟨3, ![1, 1, 1280]⟩
abbrev S12800x64 : Shape := ⟨2, ![12800, 64]⟩
abbrev S1x64x640 : Shape := ⟨3, ![1, 64, 640]⟩
abbrev S64x640 : Shape := ⟨2, ![64, 640]⟩
abbrev S640x64 : Shape := ⟨2, ![640, 64]⟩
abbrev S64x1280 : Shape := ⟨2, ![64, 1280]⟩
abbrev S1280 : Shape := ⟨1, ![1280]⟩
abbrev S1x1280 : Shape := ⟨2, ![1, 1280]⟩
abbrev S8x1280 : Shape := ⟨2, ![8, 1280]⟩
abbrev S256x64 : Shape := ⟨2, ![256, 64]⟩
abbrev S256x1280 : Shape := ⟨2, ![256, 1280]⟩
abbrev S32x8x1280 : Shape := ⟨3, ![32, 8, 1280]⟩
abbrev S1x8x1280 : Shape := ⟨3, ![1, 8, 1280]⟩

abbrev nBuf : Space → Nat
  | .hbm => 12
  | .vmem => 8
  | .smem => 0
  | _ => 0

abbrev bufTy : (tb : Table) → Fin (tcTables nBuf tb) → BufTy
  | .hbm, ⟨0, _⟩ => ⟨S2x64x80x80, .f32⟩
  | .hbm, ⟨1, _⟩ => ⟨S2x64x80x80, .f32⟩
  | .hbm, ⟨2, _⟩ => ⟨S2x80x80, .i32⟩
  | .hbm, ⟨3, _⟩ => ⟨S2x80x80, .i32⟩
  | .hbm, ⟨4, _⟩ => ⟨S_, .i32⟩
  | .hbm, ⟨5, _⟩ => ⟨S2x64x6400, .f32⟩
  | .hbm, ⟨6, _⟩ => ⟨S2x64x6400, .f32⟩
  | .hbm, ⟨7, _⟩ => ⟨S10x1x1280, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2x64x6400, .f32⟩
  | .local _ .vmem, ⟨1, _⟩ => ⟨S1x64x1280, .f32⟩
  | .local _ .vmem, ⟨2, _⟩ => ⟨S1x64x1280, .f32⟩
  | .local _ .vmem, ⟨3, _⟩ => ⟨S1x64x1280, .f32⟩
  | .local _ .vmem, ⟨4, _⟩ => ⟨S1x64x1280, .f32⟩
  | .local _ .vmem, ⟨5, _⟩ => ⟨S1x1x1280, .f32⟩
  | .local _ .vmem, ⟨6, _⟩ => ⟨S1x1x1280, .f32⟩
  | .local _ .vmem, ⟨7, _⟩ => ⟨S12800x64, .bf16⟩
  | _, _ => ⟨S2x64x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_cst_0 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2x64x6400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x64x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "neg_big" => some ⊥
  | "scale" => some ((((13421773 / 134217728) * (Real.log 2))⁻¹ : ℝ) : EReal)
  | _ => none
-- ==== ReferenceIdeal.lean ====
abbrev S2x64x80x80 : Shape := ⟨4, ![2, 64, 80, 80]⟩
abbrev S2x80x80 : Shape := ⟨3, ![2, 80, 80]⟩
abbrev S_ : Shape := ⟨0, ![]⟩
abbrev S2x80x80x64 : Shape := ⟨4, ![2, 80, 80, 64]⟩
abbrev S12800x64 : Shape := ⟨2, ![12800, 64]⟩
abbrev S12800 : Shape := ⟨1, ![12800]⟩
abbrev S12800x12800 : Shape := ⟨2, ![12800, 12800]⟩
abbrev S12800x1 : Shape := ⟨2, ![12800, 1]⟩
abbrev S12800x12801 : Shape := ⟨2, ![12800, 12801]⟩

abbrev nBuf : Space → Nat
  | .hbm => 44
  | .vmem => 0
  | .smem => 0
  | _ => 0

abbrev bufTy : (tb : Table) → Fin (tcTables nBuf tb) → BufTy
  | .hbm, ⟨0, _⟩ => ⟨S2x64x80x80, .f32⟩
  | .hbm, ⟨1, _⟩ => ⟨S2x64x80x80, .f32⟩
  | .hbm, ⟨2, _⟩ => ⟨S2x80x80, .i32⟩
  | .hbm, ⟨3, _⟩ => ⟨S2x80x80, .i32⟩
  | .hbm, ⟨4, _⟩ => ⟨S_, .i32⟩
  | .hbm, ⟨5, _⟩ => ⟨S2x80x80x64, .f32⟩
  | .hbm, ⟨6, _⟩ => ⟨S12800x64, .f32⟩
  | .hbm, ⟨7, _⟩ => ⟨S2x80x80x64, .f32⟩
  | .hbm, ⟨8, _⟩ => ⟨S12800x64, .f32⟩
  | .hbm, ⟨9, _⟩ => ⟨S12800x64, .f32⟩
  | .hbm, ⟨10, _⟩ => ⟨S_, .f32⟩
  | .hbm, ⟨11, _⟩ => ⟨S12800, .f32⟩
  | .hbm, ⟨12, _⟩ => ⟨S_, .f32⟩
  | .hbm, ⟨13, _⟩ => ⟨S12800, .f32⟩
  | .hbm, ⟨14, _⟩ => ⟨S12800, .f32⟩
  | .hbm, ⟨15, _⟩ => ⟨S12800x12800, .f32⟩
  | .hbm, ⟨16, _⟩ => ⟨S_, .f32⟩
  | .hbm, ⟨17, _⟩ => ⟨S12800x12800, .f32⟩
  | .hbm, ⟨18, _⟩ => ⟨S12800x12800, .f32⟩
  | .hbm, ⟨19, _⟩ => ⟨S12800x1, .f32⟩
  | .hbm, ⟨20, _⟩ => ⟨S12800x12801, .f32⟩
  | .hbm, ⟨21, _⟩ => ⟨S_, .f32⟩
  | .hbm, ⟨22, _⟩ => ⟨S12800, .f32⟩
  | .hbm, ⟨23, _⟩ => ⟨S12800x1, .f32⟩
  | .hbm, ⟨24, _⟩ => ⟨S12800x12801, .f32⟩
  | .hbm, ⟨25, _⟩ => ⟨S12800x12801, .f32⟩
  | .hbm, ⟨26, _⟩ => ⟨S12800x12801, .f32⟩
  | .hbm, ⟨27, _⟩ => ⟨S_, .f32⟩
  | .hbm, ⟨28, _⟩ => ⟨S12800, .f32⟩
  | .hbm, ⟨29, _⟩ => ⟨S12800, .f32⟩
  | .hbm, ⟨30, _⟩ => ⟨S12800, .f32⟩
  | .hbm, ⟨31, _⟩ => ⟨S_, .f32⟩
  | .hbm, ⟨32, _⟩ => ⟨S12800, .f32⟩
  | .hbm, ⟨33, _⟩ => ⟨S12800, .f32⟩
  | .hbm, ⟨34, _⟩ => ⟨S12800, .f32⟩
  | .hbm, ⟨35, _⟩ => ⟨S_, .f32⟩
  | .hbm, ⟨36, _⟩ => ⟨S12800, .f32⟩
  | .hbm, ⟨37, _⟩ => ⟨S12800, .f32⟩
  | .hbm, ⟨38, _⟩ => ⟨S12800, .f32⟩
  | .hbm, ⟨39, _⟩ => ⟨S12800, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S2x64x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Body.lean ====
/-
  WHAT ONE GRID POINT COMPUTES, as a fold. The body walks the 12800 embedding rows in 50 chunks of 256 and keeps, for
  every anchor column and each of 8 residues of the row number, a running maximum and a running sum of weights. Here
  that walk is one recursion over the number of chunks (`top`, `mass`), followed by the closing arithmetic (`loss`),
  and the two cases of the body are shown to compute exactly it.
-/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Body

open Idealize.ShloMosaic Idealize.ShloMosaic.TcCoe
open Cert.KernelIdeal.Gen

variable {F : FTy → Type} [FloatOps F] [Named F]

/-- The scores of one chunk: its 256 embedding rows against the anchor columns, row `8 q + r` of the chunk at `(q, r)`. -/
def score (a : FVec F S64x1280 .bf16) (e : Vec F S256x64 .bf16) : FVec F S32x8x1280 .f32 :=
  shapeCast S32x8x1280 (matmul dot_S256x64_S64x1280_S256x1280_1_0_0_1_n_n none e a (constant S256x1280 .f32 0x00000000#32))
    shapeCasts_S256x1280_S32x8x1280

/-- The running maxima after the first `k` chunks. -/
def top (a : FVec F S64x1280 .bf16) (e : ℕ → Vec F S256x64 .bf16) : ℕ → FVec F S8x1280 .f32
  | 0 => broadcast S8x1280 (Named.named κ "neg_big" 0xC6EA6000#32)
  | k + 1 => maximumf (top a e k)
      (multiReduction .maximumf [0] S8x1280 (score a (e k)) 0xFF800000#32 reduces_S32x8x1280_S8x1280 (.inl rfl) rfl)

/-- The weights of one chunk's scores under the maxima `t`. -/
def weights (s : FVec F S32x8x1280 .f32) (t : FVec F S8x1280 .f32) : FVec F S32x8x1280 .f32 :=
  exp2 (subf s (broadcastTo S32x8x1280 (shapeCast S1x8x1280 t shapeCasts_S8x1280_S1x8x1280) broadcasts_S1x8x1280_S32x8x1280))

/-- The running sums of weights after the first `k` chunks, each rescaled when its maximum moves. -/
def mass (a : FVec F S64x1280 .bf16) (e : ℕ → Vec F S256x64 .bf16) : ℕ → FVec F S8x1280 .f32
  | 0 => broadcast S8x1280 (Scalar.ofBits .f32 0x00000000#32)
  | k + 1 => addf (mulf (mass a e k) (exp2 (subf (top a e k) (top a e (k + 1)))))
      (multiReduction .add [0] S8x1280 (weights (score a (e k)) (top a e (k + 1))) 0x00000000#32
        reduces_S32x8x1280_S8x1280 (.inl rfl) rfl)

/-- The closing arithmetic: the 8 residues merged under one maximum, the positive score `p` set against the sum, and
    minus the logarithm of their ratio. -/
def loss (p : FVec F S1x1280 .f32) (t d : FVec F S8x1280 .f32) : FVec F S1x1280 .f32 :=
  have t1 : FVec F S1x1280 .f32 := shapeCast S1x1280
    (multiReduction .maximumf [0] S1280 t 0xFF800000#32 reduces_S8x1280_S1280 (.inl rfl) rfl) shapeCasts_S1280_S1x1280
  have d1 : FVec F S1x1280 .f32 := shapeCast S1x1280
    (multiReduction .add [0] S1280 (mulf d (exp2 (subf t (broadcastTo S8x1280 t1 broadcasts_S1x1280_S8x1280))))
      0x00000000#32 reduces_S8x1280_S1280 (.inl rfl) rfl) shapeCasts_S1280_S1x1280
  have w : FVec F S1x1280 .f32 := exp2 (subf p t1)
  subf (broadcast S1x1280 (Scalar.ofBits .f32 0x00000000#32))
    (log (addf (divf w (addf (addf d1 w) (broadcast S1x1280 (Scalar.ofBits .f32 0x322BCC77#32))))
      (broadcast S1x1280 (Scalar.ofBits .f32 0x322BCC77#32))))

/-- Chunk `k`'s place among the embedding rows. -/
theorem chunk_inb (k : ℕ) : ∀ a, (![256 * (k % 50), 0] : Fin 2 → ℕ) a + S256x64.size a ≤ S12800x64.size a := by
  intro a
  have := Nat.mod_lt k (show 0 < 50 by decide)
  match a with
  | ⟨0, _⟩ => show 256 * (k % 50) + 256 ≤ 12800; omega
  | ⟨1, _⟩ => show 0 + 64 ≤ 64; omega

/-- The rectangle of chunk `k`. -/
abbrev chunkRect (k : ℕ) : Rect S12800x64 := Rect.unit ![256 * (k % 50), 0] S256x64.size (chunk_inb k)

/-- The chunks of an array of embedding rows. -/
def chunk (E : Vec F S12800x64 .bf16) (k : ℕ) : Vec F S256x64 .bf16 := View.ld E (chunkRect k)

/-- What a grid point leaves in the losses' block: the closing arithmetic after all 50 chunks of the rows `E`, for the
    anchor columns `x1` and the positive columns `x2`. -/
def point (x1 x2 : Vec F S1x64x1280 .f32) (E : Vec F S12800x64 .bf16) : Vec F S1x1x1280 .f32 :=
  k0_pay1 (loss (k0_pay26 x1 x2) (top (k0_pay25 x1) (chunk E) 50) (mass (k0_pay25 x1) (chunk E) 50))

/-- Where the `k`-th group of 640 embedding columns lies in the channels-first array: batch `k / 10`, place `640 (k % 10)`. -/
theorem group_inb (k : Fin 20) : ∀ a, (![k.val / 10, 0, 640 * (k.val % 10)] : Fin 3 → ℕ) a + S1x64x640.size a ≤ S2x64x6400.size a := by
  intro a
  have := k.isLt
  match a with
  | ⟨0, _⟩ => show k.val / 10 + 1 ≤ 2; omega
  | ⟨1, _⟩ => show 0 + 64 ≤ 64; omega
  | ⟨2, _⟩ => show 640 * (k.val % 10) + 640 ≤ 6400; omega

/-- Where the `k`-th group's rows lie in the scratch array. -/
theorem slab_inb (k : Fin 20) : ∀ a, (![640 * (19 - k.val), 0] : Fin 2 → ℕ) a + S640x64.size a ≤ S12800x64.size a := by
  intro a
  match a with
  | ⟨0, _⟩ => show 640 * (19 - k.val) + 640 ≤ 12800; omega
  | ⟨1, _⟩ => show 0 + 64 ≤ 64; omega

/-- A group of embeddings turned so that each embedding is a row. -/
def turned (Y : FVec F S1x64x640 .f32) : FVec F S640x64 .bf16 :=
  shapeCast S640x64 (truncf .bf16 (transpose S640x64 [1, 0] (shapeCast S64x640 Y shapeCasts_S1x64x640_S64x640)
    transposes_S64x640_p1_0_S640x64) bitsLt_bf16_f32) shapeCasts_S640x64_S640x64

/-- Group `k` of the embeddings: 640 of them, each a row. -/
def slab (X : Vec F S2x64x6400 .f32) (k : Fin 20) : Vec F S640x64 .bf16 :=
  turned (View.ld X (Rect.unit ![k.val / 10, 0, 640 * (k.val % 10)] S1x64x640.size (group_inb k)))

/-- The 20 stores that fill the scratch array, last first. -/
def slabs (X : Vec F S2x64x6400 .f32) : List (View.Piece (Elt F) S12800x64 .bf16) :=
  List.ofFn fun k : Fin 20 => ⟨Rect.unit ![640 * (19 - k.val), 0] S640x64.size (slab_inb k), slab X (Fin.rev k)⟩

/-- What the scratch array holds once filled: every embedding as a row. -/
def rows (X : Vec F S2x64x6400 .f32) : Vec F S12800x64 .bf16 := View.canon (slabs X)

section Cases

variable (c : Dev nD) (i : grid0.Coords) (arg1 : Memref sig .tc .vmem S2x64x6400 .f32) (harg1 : arg1.IsWhole)
  (arg2 : Memref sig .tc .vmem S1x64x1280 .f32) (harg2 : arg2.IsWhole) (arg3 : Memref sig .tc .vmem S1x64x1280 .f32)
  (harg3 : arg3.IsWhole) (arg4 : Memref sig .tc .vmem S1x1x1280 .f32) (harg4 : arg4.IsWhole)
  (arg5 : Memref sig .tc .vmem S12800x64 .bf16) (harg5 : arg5.IsWhole)
  (x0 : Vec F S2x64x6400 .f32) (x1 x2 : Vec F S1x64x1280 .f32) (xs0 : Vec F S12800x64 .bf16)

/-- The stores of the first point are the 20 slabs. -/
theorem stores_A : kernelRun0_A.sl.HS0_20 c arg1 harg1 x0 = slabs (arg1.view.read (Elt F) (harg1.unread x0)) := rfl

/-- The closing value of a later point, over the chunks as it reads them. -/
theorem word_B : kernelRun0_B.sl.r_9 c arg2 harg2 arg3 harg3 arg5 harg5 x1 x2 xs0 =
    loss (kernelRun0_B.sl.r_1 c arg2 harg2 arg3 harg3 x1 x2)
      (top (kernelRun0_B.sl.r c arg2 harg2 x1) (fun k => View.readAt (Elt F) arg5.view (chunkRect k).toLoadRect (harg5.unread xs0)) 50)
      (mass (kernelRun0_B.sl.r c arg2 harg2 x1) (fun k => View.readAt (Elt F) arg5.view (chunkRect k).toLoadRect (harg5.unread xs0)) 50) := rfl

/-- The closing value of the first point, over the chunks as it reads them. -/
theorem word_A : kernelRun0_A.sl.r_7 c arg1 harg1 arg2 harg2 arg3 harg3 arg5 x0 x1 x2 =
    loss (kernelRun0_A.sl.r_1 c arg2 harg2 arg3 harg3 x1 x2)
      (top (kernelRun0_A.sl.r c arg2 harg2 x1) (fun k => arg5.view.readCov (kernelRun0_A.sl.HS0_20 c arg1 harg1 x0) (chunkRect k).toLoadRect) 50)
      (mass (kernelRun0_A.sl.r c arg2 harg2 x1) (fun k => arg5.view.readCov (kernelRun0_A.sl.HS0_20 c arg1 harg1 x0) (chunkRect k).toLoadRect) 50) := rfl

/-- A later point leaves in the losses' block the fold over the rows it finds. -/
theorem out_B (hc : ¬cond0_0 i) :
    out0_B_3 c i arg1 harg1 arg2 harg2 arg3 harg3 arg4 harg4 arg5 harg5 hc x0 x1 x2 xs0 = point x1 x2 xs0 := by
  unfold out0_B_3
  rw [View.read_writes_junk_eq_canon]
  unfold kernelRun0_B
  dsimp only
  rw [View.canon_cons_unit_lit _ _ _ (by decide), word_B]
  unfold kernelRun0_B.sl.r kernelRun0_B.sl.r_1 point
  simp only [View.readAt_eq_ld, harg2.read_unread, harg3.read_unread, harg5.read_unread]
  rw [View.ld_unit_lit _ _ (by decide), View.ld_unit_lit _ _ (by decide)]
  rfl

/-- The first point leaves the scratch array filled. -/
theorem sout_A (hc : cond0_0 i) :
    sout0_A_0 c i arg1 harg1 arg2 harg2 arg3 harg3 arg4 harg4 arg5 harg5 hc x0 x1 x2 = rows x0 := by
  unfold sout0_A_0
  rw [View.read_writes_junk_eq_canon]
  unfold kernelRun0_A
  dsimp only
  rw [stores_A, harg1.read_unread]
  rfl

/-- The first point leaves in the losses' block the fold over the rows it has just written. -/
theorem out_A (hc : cond0_0 i) :
    out0_A_3 c i arg1 harg1 arg2 harg2 arg3 harg3 arg4 harg4 arg5 harg5 hc x0 x1 x2 = point x1 x2 (rows x0) := by
  have hcov := scover0_A_0 c i arg1 harg1 arg2 harg2 arg3 harg3 arg4 harg4 arg5 harg5 hc x0 x1 x2
  unfold kernelRun0_A at hcov
  dsimp only at hcov
  unfold out0_A_3
  rw [View.read_writes_junk_eq_canon]
  unfold kernelRun0_A
  dsimp only
  rw [View.canon_cons_unit_lit _ _ _ (by decide), word_A]
  unfold kernelRun0_A.sl.r kernelRun0_A.sl.r_1 point
  simp only [View.readAt_eq_ld, harg2.read_unread, harg3.read_unread, View.readCov_eq_canon_ld _ _ _ hcov]
  rw [View.ld_unit_lit _ _ (by decide), View.ld_unit_lit _ _ (by decide), stores_A, harg1.read_unread]
  rfl

end Cases

end Cert.KernelIdeal.Body
-- ==== Proof.Consts.lean ====
/- The float constants the two programs spell, as the extended reals they denote in the ideal reading. -/
module

public import proofs.«01_k».proof.Defs
public import Idealize.ShloMosaic.PureOps.Ideal

@[expose] public section

noncomputable section

namespace Cert.Consts

open Idealize.ShloMosaic

/-- The pattern of `-∞` denotes `⊥`. -/
theorem ofBits_neg_inf : Ideal.ofBits .f32 0xFF800000#32 = ⊥ := by
  simp [Ideal.ofBits, Ideal.ieee]

/-- The temperature both programs divide by: the f32 value nearest `1/10`. -/
def temp : ℝ := 13421773 / 134217728

/-- The pattern of the temperature denotes `temp`. -/
theorem ofBits_temp : Ideal.ofBits .f32 0x3DCCCCCD#32 = ((temp : ℝ) : EReal) := by
  simp [Ideal.ofBits, Ideal.ieee, temp, -EReal.coe_mul]; norm_num

/-- The kernel's scale: the reciprocal of the temperature, in the units of a power of two. -/
def σ : ℝ := (13421773 / 134217728 * Real.log 2)⁻¹

/-- The scale is positive. -/
theorem σ_pos : 0 < σ := inv_pos.mpr (mul_pos (by norm_num) (Real.log_pos (by norm_num)))

/-- The reciprocal of the temperature is positive. -/
theorem inv_temp_pos : 0 < 1 / temp := by unfold temp; norm_num

/-- Changing base from `2` to `e` turns the scale into the reciprocal of the temperature. -/
theorem σ_mul_log : σ * Real.log 2 = 1 / temp := by
  have h : Real.log 2 ≠ 0 := (Real.log_pos (by norm_num)).ne'
  unfold σ temp
  field_simp

/-- The kernel's scale denotes `σ`. -/
theorem scale : Named.named (F := Ideal) Cert.KernelIdeal.κ "scale" (φ := .f32) 0x4166D4CA#32 = ((σ : ℝ) : EReal) :=
  IdealRules.named_const.ideal_named_scalar _ _ _ _ rfl

/-- The kernel's first maximum denotes `⊥`. -/
theorem neg_big : Named.named (F := Ideal) Cert.KernelIdeal.κ "neg_big" (φ := .f32) 0xC6EA6000#32 = ⊥ :=
  IdealRules.named_const.ideal_named_scalar _ _ _ _ rfl

end Cert.Consts

end
-- ==== Proof.Read.lean ====
/- The pieces of the kernel's body read at an index, in the ideal reading: sums, maxima and powers of two of extended reals. -/
module

public import proofs.«01_k».proof.Proof.Body
public import proofs.«01_k».proof.Proof.Consts
public import Idealize.ShloMosaic.Lib.Pointwise

@[expose] public section

set_option maxRecDepth 16384

noncomputable section

namespace Cert.KernelIdeal.Body

open Idealize.ShloMosaic Idealize.ShloMosaic.TcCoe
open Cert.KernelIdeal.Gen

/-! ## The scratch array -/

/-- One group of embeddings, loaded: its element is the embedding's element. -/
theorem group_apply (X : Vec Ideal S2x64x6400 .f32) (k : Fin 20) (z : Fin 1) (ch : Fin 64) (j : Fin 640) :
    View.ld X (Rect.unit ![k.val / 10, 0, 640 * (k.val % 10)] S1x64x640.size (group_inb k)) (ix3 z ch j) =
      X (ix3 ⟨k / 10, by omega⟩ ch ⟨640 * (k % 10) + j, by omega⟩) := by
  pointwise

/-- A group turned: row `j` is embedding `j`. -/
theorem turned_apply (Y : FVec Ideal S1x64x640 .f32) (j : Fin 640) (ch : Fin 64) :
    turned Y (ix2 j ch) = Y (ix3 0 ch j) := by
  pointwise [turned]

/-- Row `j` of the scratch array is embedding `j % 6400` of batch element `j / 6400`. -/
theorem rows_apply (X : Vec Ideal S2x64x6400 .f32) (j : Fin 12800) (ch : Fin 64) :
    rows X (ix2 j ch) = X (ix3 ⟨j / 6400, by omega⟩ ch ⟨j % 6400, by omega⟩) := by
  refine View.canon_ofFn_unit_eq_of_forall (S := S12800x64) (fun k : Fin 20 => ![640 * (19 - k.val), 0]) S640x64.size slab_inb
    (fun k => slab X (Fin.rev k)) _ _ ⟨⟨19 - j / 640, by omega⟩, ?_⟩ fun k x hx => ?_
  · intro a
    fin_cases a
    · show 640 * (19 - (19 - j.val / 640)) ≤ j.val ∧ j.val < 640 * (19 - (19 - j.val / 640)) + 640
      omega
    · show 0 ≤ ch.val ∧ ch.val < 0 + 64
      omega
  · have hj : j.val = 640 * (19 - k.val) + (x 0).val := hx 0
    have hc : ch.val = 0 + (x 1).val := hx 1
    idx_vars x
    have h0 : x0.val < 640 := x0.isLt
    have hk : (Fin.rev k).val = 19 - k.val := by rw [Fin.val_rev]; omega
    rw [slab, turned_apply, group_apply]
    congr 1
    refine funext fun a => Fin.ext ?_
    fin_cases a
    · show (Fin.rev k).val / 10 = j.val / 6400
      omega
    · show x1.val = ch.val
      omega
    · show 640 * ((Fin.rev k).val % 10) + x0.val = j.val % 6400
      omega

/-- A chunk of the scratch array: 256 consecutive rows. -/
theorem chunk_apply (E : Vec Ideal S12800x64 .bf16) (k : ℕ) (j : Fin 256) (ch : Fin 64) :
    chunk E k (ix2 j ch) = E (ix2 ⟨256 * (k % 50) + j, by omega⟩ ch) := by
  unfold chunk
  pointwise

/-! ## One chunk -/

/-- A score is the product of an embedding with an anchor. -/
theorem score_apply (a : FVec Ideal S64x1280 .bf16) (e : Vec Ideal S256x64 .bf16) (q : Fin 32) (r : Fin 8) (n : Fin 1280) :
    score a e (ix3 q r n) = ∑ ch : Fin 64, e (ix2 ⟨q * 8 + r, by omega⟩ ch) * a (ix2 ch n) := by
  pointwise [score]

/-- Before any chunk a lane's maximum is the least score, `⊥`. -/
theorem top_zero (a : FVec Ideal S64x1280 .bf16) (e : ℕ → Vec Ideal S256x64 .bf16) (r : Fin 8) (n : Fin 1280) :
    top a e 0 (ix2 r n) = ⊥ := by
  rw [top]
  pointwise
  exact Consts.neg_big

/-- Before any chunk a lane's sum is zero. -/
theorem mass_zero (a : FVec Ideal S64x1280 .bf16) (e : ℕ → Vec Ideal S256x64 .bf16) (r : Fin 8) (n : Fin 1280) :
    mass a e 0 (ix2 r n) = 0 := by
  rw [mass]
  pointwise

/-- A chunk raises a lane's maximum to its own largest score. -/
theorem top_succ (a : FVec Ideal S64x1280 .bf16) (e : ℕ → Vec Ideal S256x64 .bf16) (k : ℕ) (r : Fin 8) (n : Fin 1280) :
    top a e (k + 1) (ix2 r n) =
      max (top a e k (ix2 r n)) (Finset.univ.sup fun q : Fin 32 => score a (e k) (ix3 q r n)) := by
  rw [top]
  pointwise
  rw [Consts.ofBits_neg_inf]
  rfl

/-- A chunk adds its weights to a lane's sum, corrected to the new maximum. -/
theorem mass_succ (a : FVec Ideal S64x1280 .bf16) (e : ℕ → Vec Ideal S256x64 .bf16) (k : ℕ) (r : Fin 8) (n : Fin 1280) :
    mass a e (k + 1) (ix2 r n) = mass a e k (ix2 r n) * Ideal.exp2 (top a e k (ix2 r n) - top a e (k + 1) (ix2 r n))
      + ∑ q : Fin 32, Ideal.exp2 (score a (e k) (ix3 q r n) - top a e (k + 1) (ix2 r n)) := by
  rw [mass]
  unfold weights
  pointwise
  rfl

/-! ## The end of a point -/

/-- The loss of an anchor from its own score `p`, the lanes' maxima `t` and the lanes' sums `d`. -/
def lossAt (p : EReal) (t d : Fin 8 → EReal) : EReal :=
  0 - Ideal.log (Ideal.div (Ideal.exp2 (p - Finset.univ.sup t))
    (∑ r, d r * Ideal.exp2 (t r - Finset.univ.sup t) + Ideal.exp2 (p - Finset.univ.sup t) + Ideal.ofBits .f32 0x322BCC77#32)
      + Ideal.ofBits .f32 0x322BCC77#32)

/-- The closing arithmetic at an anchor is `lossAt` of its own score and its lanes. -/
theorem loss_apply (p : FVec Ideal S1x1280 .f32) (t d : FVec Ideal S8x1280 .f32) (n : Fin 1280) :
    loss p t d (ix2 0 n) = lossAt (p (ix2 0 n)) (fun r => t (ix2 r n)) (fun r => d (ix2 r n)) := by
  unfold loss
  pointwise
  rw [Consts.ofBits_neg_inf]
  rfl

/-- The anchors are scaled by `σ`. -/
theorem anchor_apply (x : Vec Ideal S1x64x1280 .f32) (ch : Fin 64) (n : Fin 1280) :
    k0_pay25 x (ix2 ch n) = x (ix3 0 ch n) * (Consts.σ : EReal) := by
  unfold k0_pay25
  pointwise
  rw [Consts.scale]

/-- An anchor's own score is its product with its target. -/
theorem own_apply (x1 x2 : Vec Ideal S1x64x1280 .f32) (n : Fin 1280) :
    k0_pay26 x1 x2 (ix2 0 n) = ∑ ch : Fin 64, x1 (ix3 0 ch n) * (Consts.σ : EReal) * x2 (ix3 0 ch n) := by
  unfold k0_pay26
  pointwise
  simp only [anchor_apply]

/-- The block stored is the row of losses. -/
theorem out_apply (v : FVec Ideal S1x1280 .f32) (n : Fin 1280) : k0_pay1 (F := Ideal) v (ix3 0 0 n) = v (ix2 0 n) := by
  unfold k0_pay1
  pointwise

end Cert.KernelIdeal.Body

end
-- ==== Proof.Math.lean ====
/- The mathematics of a running softmax on the extended reals: a sum of powers of two kept relative to a running maximum, and
   the change of base from `2` to `e`. Nothing here mentions a program. -/
module

public import Idealize.ShloMosaic.PureOps.Ideal

@[expose] public section

noncomputable section

namespace Cert.Math

open Idealize.ShloMosaic

/-! ## Weights -/

/-- A power of two is not negative. -/
theorem exp2_nonneg (x : EReal) : 0 ≤ Ideal.exp2 x := by
  induction x with
  | bot => simp
  | top => simp
  | coe x => rw [Ideal.exp2_coe]; exact_mod_cast Real.rpow_nonneg (by norm_num) x

/-- Moving a weight from one maximum to a later one: for `s ≤ m ≤ m'` the weight of `s` relative to `m`, corrected by the
    weight of `m` relative to `m'`, is the weight of `s` relative to `m'`. The scores may be infinite. -/
theorem exp2_shift {s m m' : EReal} (h : s ≤ m) (h' : m ≤ m') :
    Ideal.exp2 (s - m) * Ideal.exp2 (m - m') = Ideal.exp2 (s - m') := by
  induction s <;> induction m <;> induction m' <;> simp_all [EReal.bot_sub, EReal.sub_top]
  rw [← EReal.coe_sub, ← EReal.coe_sub, ← EReal.coe_sub, Ideal.exp2_coe, Ideal.exp2_coe, Ideal.exp2_coe, ← EReal.coe_mul]
  congr 1
  exact (Real.rpow_add (by norm_num) _ _).symm.trans (by congr 1; ring)

/-- Multiplying a sum of terms that are not negative multiplies each. -/
theorem sum_mul_of_nonneg {ι : Type*} (S : Finset ι) (w : ι → EReal) (hw : ∀ i ∈ S, 0 ≤ w i) (x : EReal) :
    (∑ i ∈ S, w i) * x = ∑ i ∈ S, w i * x := by
  classical
  induction S using Finset.induction_on with
  | empty => simp
  | insert a S ha ih =>
    rw [Finset.sum_insert ha, Finset.sum_insert ha, EReal.right_distrib_of_nonneg (hw a (Finset.mem_insert_self a S))
      (Finset.sum_nonneg fun i hi => hw i (Finset.mem_insert_of_mem hi)), ih fun i hi => hw i (Finset.mem_insert_of_mem hi)]

/-- A sum of weights kept relative to a bound `m` of its scores, corrected to a later bound `m'`. -/
theorem sum_exp2_shift {ι : Type*} (S : Finset ι) (y : ι → EReal) {m m' : EReal} (hy : ∀ i ∈ S, y i ≤ m) (h : m ≤ m') :
    (∑ i ∈ S, Ideal.exp2 (y i - m)) * Ideal.exp2 (m - m') = ∑ i ∈ S, Ideal.exp2 (y i - m') := by
  rw [sum_mul_of_nonneg S _ fun i _ => exp2_nonneg _]
  exact Finset.sum_congr rfl fun i hi => exp2_shift (hy i hi) h

/-! ## The running maximum and the running sum -/

/-- `T k` and `M k` are the running maximum and the running sum of weights over the chunks `y 0`, `y 1`, …: each chunk raises
    the maximum, and the sum so far is corrected to the new maximum before the chunk's own weights are added. -/
structure Running {ι : Type*} [Fintype ι] (y : ℕ → ι → EReal) (T M : ℕ → EReal) : Prop where
  top_zero : T 0 = ⊥
  mass_zero : M 0 = 0
  top_succ : ∀ k, T (k + 1) = max (T k) (Finset.univ.sup (y k))
  mass_succ : ∀ k, M (k + 1) = M k * Ideal.exp2 (T k - T (k + 1)) + ∑ q, Ideal.exp2 (y k q - T (k + 1))

namespace Running

variable {ι : Type*} [Fintype ι] {y : ℕ → ι → EReal} {T M : ℕ → EReal}

/-- The running maximum is the largest score of the first `k` chunks. -/
theorem top_eq (h : Running y T M) (k : ℕ) : T k = (Finset.range k ×ˢ Finset.univ).sup fun i => y i.1 i.2 := by
  rw [Finset.sup_product_left]
  induction k with
  | zero => simpa using h.top_zero
  | succ k ih => rw [h.top_succ, ih, Finset.range_add_one, Finset.sup_insert, max_comm]

/-- The running sum, corrected to any bound `t` of the maximum, sums the weights of the first `k` chunks relative to `t`. -/
theorem mass_shift (h : Running y T M) (k : ℕ) {t : EReal} (ht : T k ≤ t) :
    M k * Ideal.exp2 (T k - t) = ∑ i ∈ Finset.range k ×ˢ Finset.univ, Ideal.exp2 (y i.1 i.2 - t) := by
  induction k generalizing t with
  | zero => simp [h.mass_zero]
  | succ k ih =>
    have hT : T k ≤ T (k + 1) := h.top_succ k ▸ le_max_left _ _
    have hM : M (k + 1) = ∑ i ∈ Finset.range (k + 1) ×ˢ Finset.univ, Ideal.exp2 (y i.1 i.2 - T (k + 1)) := by
      rw [h.mass_succ, ih hT, Finset.sum_product, Finset.sum_product, Finset.sum_range_succ]
    rw [hM]
    refine sum_exp2_shift _ (fun i : ℕ × ι => y i.1 i.2) (fun i hi => ?_) ht
    rw [h.top_eq]
    exact Finset.le_sup (f := fun i : ℕ × ι => y i.1 i.2) hi

end Running

/-! ## Several lanes -/

section Lanes

variable {ρ ι I : Type*} [Fintype ρ] [Fintype ι] [Fintype I] (K : ℕ) (s : I → EReal) (f : ρ → ℕ → ι → I)
  (hf : Function.Bijective fun i : ρ × Fin K × ι => f i.1 i.2.1 i.2.2)
  {T M : ρ → ℕ → EReal} (h : ∀ r, Running (fun k q => s (f r k q)) (T r) (M r))

include hf h

/-- When lanes share out all scores, the largest of their maxima is the largest score. -/
theorem lanes_top : (Finset.univ.sup fun r => T r K) = Finset.univ.sup s := by
  refine le_antisymm (Finset.sup_le fun r _ => ?_) (Finset.sup_le fun i _ => ?_)
  · rw [(h r).top_eq]
    exact Finset.sup_le fun i _ => Finset.le_sup (f := s) (Finset.mem_univ _)
  · obtain ⟨⟨r, k, q⟩, rfl⟩ := hf.2 i
    refine le_trans ?_ (Finset.le_sup (f := fun r => T r K) (Finset.mem_univ r))
    rw [(h r).top_eq]
    exact Finset.le_sup (f := fun i : ℕ × ι => s (f r i.1 i.2)) (b := ((k : ℕ), q)) (by simp)

/-- When lanes share out all scores, their sums corrected to the largest score add up to the sum of all weights. -/
theorem lanes_mass :
    ∑ r, M r K * Ideal.exp2 (T r K - Finset.univ.sup s) = ∑ i, Ideal.exp2 (s i - Finset.univ.sup s) := by
  rw [← hf.sum_comp, Fintype.sum_prod_type]
  refine Finset.sum_congr rfl fun r _ => ?_
  rw [(h r).mass_shift K, Finset.sum_product, Fintype.sum_prod_type, Finset.sum_range]
  rw [← lanes_top K s f hf h]
  exact Finset.le_sup (f := fun r => T r K) (Finset.mem_univ r)

end Lanes

/-! ## Scaling the scores -/

/-- Multiplying by a positive real keeps the order. -/
theorem mul_coe_monotone {u : ℝ} (hu : 0 < u) : Monotone fun x : EReal => x * (u : EReal) :=
  fun _ _ h => mul_le_mul_of_nonneg_right h (by exact_mod_cast hu.le)

/-- A positive factor common to the scores comes out of their largest. -/
theorem sup_mul_coe {ι : Type*} (S : Finset ι) (y : ι → EReal) {u : ℝ} (hu : 0 < u) :
    (S.sup fun i => y i * (u : EReal)) = S.sup y * (u : EReal) := by
  classical
  induction S using Finset.induction_on with
  | empty => simp [EReal.bot_mul_coe_of_pos hu]
  | insert a S ha ih =>
    rw [Finset.sup_insert, Finset.sup_insert, ih]
    exact ((mul_coe_monotone hu).map_max (a := y a) (b := S.sup y)).symm

/-- A positive factor common to the terms comes out of their sum. -/
theorem sum_mul_coe {ι : Type*} (S : Finset ι) (y : ι → EReal) {u : ℝ} (hu : 0 < u) :
    ∑ i ∈ S, y i * (u : EReal) = (∑ i ∈ S, y i) * (u : EReal) := by
  classical
  induction S using Finset.induction_on with
  | empty => simp
  | insert a S ha ih =>
    rw [Finset.sum_insert ha, Finset.sum_insert ha, ih,
      EReal.right_distrib_of_nonneg_of_ne_top (by exact_mod_cast hu.le) (EReal.coe_ne_top u)]

/-- Change of base: when `u * log 2 = v`, a power of two of a difference of scores scaled by `u` is the exponential of the
    difference of the scores scaled by `v`. The scores may be infinite. -/
theorem exp2_eq_exp {u v : ℝ} (hu : 0 < u) (huv : u * Real.log 2 = v) (a b : EReal) :
    Ideal.exp2 (a * (u : EReal) - b * (u : EReal)) = Ideal.exp (a * (v : EReal) - b * (v : EReal)) := by
  have hv : 0 < v := huv ▸ mul_pos hu (Real.log_pos (by norm_num))
  induction a <;> induction b <;>
    simp only [EReal.bot_mul_coe_of_pos hu, EReal.bot_mul_coe_of_pos hv, EReal.top_mul_coe_of_pos hu,
      EReal.top_mul_coe_of_pos hv, ← EReal.coe_mul, ← EReal.coe_sub, EReal.bot_sub, EReal.coe_sub_bot, EReal.top_sub_bot,
      EReal.top_sub_coe, EReal.sub_top, Ideal.exp2_coe, Ideal.exp_coe, Ideal.exp2_bot, Ideal.exp_bot, Ideal.exp2_top,
      Ideal.exp_top]
  rename_i a b
  refine congrArg _ ((Real.rpow_def_of_pos (by norm_num) _).trans ?_)
  rw [← huv]; congr 1; ring

end Cert.Math

end
-- ==== Proof.Spec.lean ====
/- The loss as mathematics: what both programs compute, the loss of one anchor and the mean over all of them. -/
module

public import proofs.«01_k».proof.Proof.Consts
public import proofs.«01_k».proof.Proof.Math

@[expose] public section

noncomputable section

namespace Cert.Spec

open Idealize.ShloMosaic

/-- The small constant both programs add. -/
def eps : EReal := Ideal.ofBits .f32 0x322BCC77#32

/-- The weight of a score `a` against the largest score `b`: `exp ((a - b) / temp)`. -/
def weight (a b : EReal) : EReal :=
  Ideal.exp (a * ((1 / Consts.temp : ℝ) : EReal) - b * ((1 / Consts.temp : ℝ) : EReal))

/-- The loss of an anchor whose products with the embeddings are `R`, the one of its own embedding being `R i`: minus the
    logarithm of its own weight's share of the total, in which its own weight is counted once more. -/
def anchorLoss {I : Type*} [Fintype I] (R : I → EReal) (i : I) : EReal :=
  -Ideal.log (Ideal.div (weight (R i) (Finset.univ.sup R))
    ((∑ j, weight (R j) (Finset.univ.sup R)) + weight (R i) (Finset.univ.sup R) + eps) + eps)

/-- In the kernel's units a weight is a power of two of scaled scores. -/
theorem weight_eq (a b : EReal) :
    Ideal.exp2 (a * (Consts.σ : EReal) - b * (Consts.σ : EReal)) = weight a b :=
  Math.exp2_eq_exp Consts.σ_pos Consts.σ_mul_log a b

/-! ## The mean over the anchors -/

section Mean

variable (x e : Fin 2 → Fin 64 → Fin 80 → Fin 80 → EReal)

/-- Channel `ch` at position `n` of a feature map, the positions counted through both batch elements row by row. -/
def feature (n : Fin 12800) (ch : Fin 64) : EReal :=
  x ⟨n / 6400, by omega⟩ ch ⟨n / 80 % 80, by omega⟩ ⟨n % 80, by omega⟩

/-- The product of the embedding at position `j` with the anchor at position `n`. -/
def product (n j : Fin 12800) : EReal := ∑ ch, feature e j ch * feature x n ch

/-- The loss: the mean over all anchors of the loss of each, an anchor's own embedding being the one at its position. -/
def result : EReal := Ideal.div (∑ n, anchorLoss (product x e n) n) (Ideal.ofBits .f32 0x46480000#32)

end Mean

end Cert.Spec

end
-- ==== Proof.Point.lean ====
/- What one grid point computes, in the ideal reading: for each of its anchors the loss of that anchor. -/
module

public import proofs.«01_k».proof.Proof.Read
public import proofs.«01_k».proof.Proof.Spec

@[expose] public section

noncomputable section

namespace Cert.KernelIdeal.Body

open Idealize.ShloMosaic Idealize.ShloMosaic.TcCoe
open Cert.KernelIdeal.Gen

/-- The row that lane `r` meets at place `q` of chunk `k`. -/
def row (r : Fin 8) (k : ℕ) (q : Fin 32) : Fin 12800 := ⟨256 * (k % 50) + (q * 8 + r), by omega⟩

/-- The lanes share out all rows. -/
theorem row_bijective : Function.Bijective fun i : Fin 8 × Fin 50 × Fin 32 => row i.1 i.2.1 i.2.2 := by
  constructor
  · rintro ⟨r, k, q⟩ ⟨r', k', q'⟩ h
    have h : 256 * (k.val % 50) + (q.val * 8 + r.val) = 256 * (k'.val % 50) + (q'.val * 8 + r'.val) := congrArg Fin.val h
    rw [Prod.mk.injEq, Prod.mk.injEq, Fin.ext_iff, Fin.ext_iff, Fin.ext_iff]
    omega
  · intro j
    refine ⟨(⟨j % 8, by omega⟩, ⟨j / 256, by omega⟩, ⟨j % 256 / 8, by omega⟩), Fin.ext ?_⟩
    show 256 * (j.val / 256 % 50) + (j.val % 256 / 8 * 8 + j.val % 8) = j.val
    omega

section Point

variable (x1 x2 : Vec Ideal S1x64x1280 .f32) (E : Vec Ideal S12800x64 .bf16) (n : Fin 1280)

/-- The product of row `j` with anchor `n`. -/
def product (j : Fin 12800) : EReal := ∑ ch : Fin 64, E (ix2 j ch) * x1 (ix3 0 ch n)

/-- The kernel's scores are the products scaled by `σ`. -/
theorem score_chunk (k : ℕ) (q : Fin 32) (r : Fin 8) :
    score (k0_pay25 x1) (chunk E k) (ix3 q r n) = product x1 E n (row r k q) * (Consts.σ : EReal) := by
  rw [score_apply, product, ← Math.sum_mul_coe _ _ Consts.σ_pos]
  refine Finset.sum_congr rfl fun ch _ => ?_
  rw [chunk_apply, anchor_apply, mul_assoc]
  rfl

/-- A lane's maximum and sum run over the lane's scores. -/
theorem running (r : Fin 8) :
    Math.Running (fun k q => product x1 E n (row r k q) * (Consts.σ : EReal))
      (fun k => top (k0_pay25 x1) (chunk E) k (ix2 r n)) (fun k => mass (k0_pay25 x1) (chunk E) k (ix2 r n)) where
  top_zero := top_zero _ _ _ _
  mass_zero := mass_zero _ _ _ _
  top_succ k := by rw [top_succ]; simp only [score_chunk]
  mass_succ k := by rw [mass_succ]; simp only [score_chunk]

/-- A grid point leaves, for anchor `n`, the loss of the products of the rows with it, given which row is its target. -/
theorem point_apply (i : Fin 12800) (hi : ∀ ch, x2 (ix3 0 ch n) = E (ix2 i ch)) :
    point x1 x2 E (ix3 0 0 n) = Spec.anchorLoss (product x1 E n) i := by
  have hown : k0_pay26 x1 x2 (ix2 0 n) = product x1 E n i * (Consts.σ : EReal) := by
    rw [own_apply, product, ← Math.sum_mul_coe _ _ Consts.σ_pos]
    refine Finset.sum_congr rfl fun ch _ => ?_
    rw [hi, mul_comm, mul_assoc]
  have htop := Math.lanes_top 50 (fun j => product x1 E n j * (Consts.σ : EReal)) row row_bijective (running x1 E n)
  have hmass := Math.lanes_mass 50 (fun j => product x1 E n j * (Consts.σ : EReal)) row row_bijective (running x1 E n)
  rw [Math.sup_mul_coe _ _ Consts.σ_pos] at htop hmass
  simp only [Spec.weight_eq] at hmass
  rw [point, out_apply, loss_apply, lossAt, htop, hmass, hown, Spec.weight_eq, sub_eq_add_neg, zero_add]
  rfl

end Point

end Cert.KernelIdeal.Body

end
-- ==== Proof.Array.lean ====
/- What the kernel's arrays hold, in the ideal reading: the scratch array the embeddings, the result array the losses. -/
module

public import proofs.«01_k».proof.Proof.Point
public import Idealize.ShloMosaic.Lib.Pipeline.ValueKit

@[expose] public section

set_option maxRecDepth 16384

noncomputable section

namespace Cert.KernelIdeal.Body

open Idealize.ShloMosaic Idealize.ShloMosaic.TcCoe Idealize.SL.Sem
open Cert.KernelIdeal.Gen

variable (m : (ℓ : Loc nD τ sig) → Buf (Elt Ideal) ℓ) (c : Dev nD)

/-! ## The arrays the grid reads -/

/-- A feature map with the positions of a batch element on one axis. -/
def merged (x : FVec Ideal S2x64x80x80 .f32) : FVec Ideal S2x64x6400 .f32 :=
  shapeCast S2x64x6400 x shapeCasts_S2x64x80x80_S2x64x6400

/-- Position `p` of a merged feature map is row `p / 80`, column `p % 80`. -/
theorem merged_apply (x : FVec Ideal S2x64x80x80 .f32) (b : Fin 2) (ch : Fin 64) (p : Fin 6400) :
    merged x (ix3 b ch p) = x (ix4 b ch ⟨p / 80, by omega⟩ ⟨p % 80, by omega⟩) := by
  unfold merged
  pointwise

/-- The anchors' feature map. -/
abbrev anchors : FVec Ideal S2x64x80x80 .f32 := m ((c.tc : Thread nD τ).loc main_arg0)
/-- The embeddings' feature map. -/
abbrev embeds : FVec Ideal S2x64x80x80 .f32 := m ((c.tc : Thread nD τ).loc main_arg1)

/-- The grid finds the anchors' feature map merged, -/
theorem V_anchors : V m c main_call0_v0 = merged (anchors m c) := by
  rfl

/-- and the embeddings' feature map. -/
theorem V_embeds : V m c main_call0_v1 = merged (embeds m c) := by
  rfl

/-! ## The blocks of a grid point -/

/-- Which block each window takes at point `t`: the first all embeddings, the second and third the point's anchors and their
    embeddings, the last row `t` of the losses. -/
theorem index_facts : ∀ t : Fin cfg0.N, win0_0.index t = ![0, 0, 0] ∧ win0_1.index t = ![t.val / 5, 0, t.val % 5] ∧
    win0_2.index t = ![t.val / 5, 0, t.val % 5] ∧ win0_3.index t = ![t.val, 0, 0] :=
  (by decide +kernel : ∀ t : Fin grid0.N, _)

/-- A point's first window holds all embeddings. -/
theorem block_all (t : Fin cfg0.N) : iblk m c 0 t = merged (embeds m c) := by
  obtain ⟨h0, -, -, -⟩ := index_facts t
  rw [← V_embeds]
  funext y
  blk_ext [iblk, h0]

/-- The grid has ten points. -/
theorem point_lt (t : Fin cfg0.N) : t.val < 10 := lt_of_lt_of_eq t.isLt N_0

/-- The position of anchor `n` of grid point `t`. -/
def place (t : Fin cfg0.N) (n : Fin 1280) : Fin 12800 := ⟨1280 * t.val + n, by have := point_lt t; omega⟩

/-- Position `n` of a merged feature map's batch element, read at the place a block gives it. -/
theorem merged_place (x : FVec Ideal S2x64x80x80 .f32) (t : Fin cfg0.N) (ch : Fin 64) (n : Fin 1280)
    (hb : t.val / 5 < 2) (hp : 1280 * (t.val % 5) + n.val < 6400) :
    merged x (ix3 ⟨t.val / 5, hb⟩ ch ⟨1280 * (t.val % 5) + n, hp⟩) =
      Spec.feature (fun i j k l => x (ix4 i j k l)) (place t n) ch := by
  rw [merged_apply, Spec.feature, place]
  congr 1
  refine funext fun a => Fin.ext ?_
  fin_cases a
  · show t.val / 5 = (1280 * t.val + n.val) / 6400
    omega
  · rfl
  · show (1280 * (t.val % 5) + n.val) / 80 = (1280 * t.val + n.val) / 80 % 80
    omega
  · show (1280 * (t.val % 5) + n.val) % 80 = (1280 * t.val + n.val) % 80
    omega

/-- A point's second window holds its anchors. -/
theorem block_anchors (t : Fin cfg0.N) (ch : Fin 64) (n : Fin 1280) :
    iblk m c 1 t (ix3 0 ch n) = Spec.feature (fun i j k l => anchors m c (ix4 i j k l)) (place t n) ch := by
  obtain ⟨-, h1, -, -⟩ := index_facts t
  have ht := point_lt t
  rw [← merged_place _ t ch n (by omega) (by omega), ← V_anchors]
  blk_ext [iblk, h1]

/-- A point's third window holds the embeddings at its anchors' positions. -/
theorem block_targets (t : Fin cfg0.N) (ch : Fin 64) (n : Fin 1280) :
    iblk m c 2 t (ix3 0 ch n) = Spec.feature (fun i j k l => embeds m c (ix4 i j k l)) (place t n) ch := by
  obtain ⟨-, -, h2, -⟩ := index_facts t
  have ht := point_lt t
  rw [← merged_place _ t ch n (by omega) (by omega), ← V_embeds]
  blk_ext [iblk, h2]

/-- The scratch array's rows are the embeddings. -/
theorem rows_embeds (j : Fin 12800) (ch : Fin 64) :
    rows (F := Ideal) (merged (embeds m c)) (ix2 j ch) = Spec.feature (fun i j k l => embeds m c (ix4 i j k l)) j ch := by
  rw [rows_apply, merged_apply, Spec.feature]
  congr 1
  refine funext fun a => Fin.ext ?_
  fin_cases a
  · rfl
  · rfl
  · show j.val % 6400 / 80 = j.val / 80 % 80
    omega
  · show j.val % 6400 % 80 = j.val % 80
    omega

/-! ## What the points leave -/

/-- The first point fills the scratch array with the embeddings. -/
theorem scratch_first (t : Fin cfg0.N) (h0 : t.val % 10 = 0) :
    (outsAt0 m c t.val t.isLt).2 = rows (merged (embeds m c)) := by
  rw [outsAt0_A m c t h0]
  dsimp only
  rw [sout_A, block_all]

/-- A later point leaves the scratch array as it finds it. -/
theorem scratch_later (t : Fin cfg0.N) (h0 : ¬t.val % 10 = 0) :
    (outsAt0 m c t.val t.isLt).2 = (outsAt0 m c (t.val - 1) (Nat.lt_of_le_of_lt (Nat.sub_le _ _) t.isLt)).2 := by
  rw [outsAt0_B m c t h0]
  dsimp only [sout0_B_0]

/-- After every point the scratch array holds the embeddings. -/
theorem scratch (n : ℕ) : ∀ hn : n < cfg0.N, (outsAt0 m c n hn).2 = rows (merged (embeds m c)) := by
  induction n with
  | zero => exact fun hn => scratch_first m c ⟨0, hn⟩ rfl
  | succ n ih =>
    intro hn
    have h := point_lt ⟨n + 1, hn⟩
    have h0 : ¬(n + 1) % 10 = 0 := by dsimp only at h; omega
    exact (scratch_later m c ⟨n + 1, hn⟩ h0).trans (ih _)

/-- Every point computes from its anchors, their embeddings and the scratch array's rows. -/
theorem left (t : Fin cfg0.N) :
    (outsAt0 m c t.val t.isLt).1 = point (iblk m c 1 t) (iblk m c 2 t) (rows (merged (embeds m c))) := by
  by_cases h0 : t.val % 10 = 0
  · rw [outsAt0_A m c t h0]
    dsimp only
    rw [out_A, block_all]
  · rw [outsAt0_B m c t h0]
    dsimp only
    rw [out_B, scratch]

/-- The loss of the anchor at position `n`. -/
def lossOf (n : Fin 12800) : EReal :=
  Spec.anchorLoss (Spec.product (fun i j k l => anchors m c (ix4 i j k l)) (fun i j k l => embeds m c (ix4 i j k l)) n) n

/-- A point whose blocks hold an anchor, its embedding and all embeddings leaves that anchor's loss. -/
theorem point_loss (x1 x2 : Vec Ideal S1x64x1280 .f32) (E : Vec Ideal S12800x64 .bf16) (n : Fin 1280) (i : Fin 12800)
    (h1 : ∀ ch, x1 (ix3 0 ch n) = Spec.feature (fun i j k l => anchors m c (ix4 i j k l)) i ch)
    (h2 : ∀ ch, x2 (ix3 0 ch n) = Spec.feature (fun i j k l => embeds m c (ix4 i j k l)) i ch)
    (hE : ∀ j ch, E (ix2 j ch) = Spec.feature (fun i j k l => embeds m c (ix4 i j k l)) j ch) :
    point x1 x2 E (ix3 0 0 n) = lossOf m c i := by
  rw [point_apply x1 x2 E n i fun ch => (h2 ch).trans (hE i ch).symm, lossOf]
  congr 1
  funext j
  simp only [product, hE, h1]
  rfl

/-- A point leaves the losses of its anchors. -/
theorem left_apply (t : Fin cfg0.N) (n : Fin 1280) :
    (outsAt0 m c t.val t.isLt).1 (ix3 0 0 n) = lossOf m c (place t n) :=
  (congrFun (left m c t) _).trans (point_loss m c _ _ _ n _ (fun ch => block_anchors m c t ch n)
    (fun ch => block_targets m c t ch n) (rows_embeds m c))

/-- The array of losses: ten rows of 1280. -/
def lossArray : FVec Ideal S10x1x1280 .f32 := fun i =>
  lossOf m c ⟨1280 * (i 0).val + (i 2).val, by
    have h0 : (i 0).val < 10 := (i 0).isLt; have h2 : (i 2).val < 1280 := (i 2).isLt; omega⟩

/-- The result array holds every anchor's loss. -/
theorem loss_array : (dats m 0 c).arrAt 3 cfg0.N = lossArray m c := by
  refine (dats m 0 c).arrAt_eq_of_covers 3 _ (by decide +kernel) fun t hf y => ?_
  obtain ⟨-, -, -, h3⟩ := index_facts t
  blk_simp
  rw [after0_3]
  idx_vars y
  obtain rfl : y0 = 0 := Subsingleton.elim _ _
  obtain rfl : y1 = 0 := Subsingleton.elim _ _
  rw [left_apply, lossArray]
  refine congrArg _ (Fin.ext ?_)
  blk_simp [h3, place]
  rfl

end Cert.KernelIdeal.Body

end
-- ==== Proof.Run.lean ====
/- The kernel's run, in the ideal reading: its result is the mean of the array of losses. -/
module

public import proofs.«01_k».proof.Proof.Array
public import Idealize.ShloMosaic.Lib.StableHlo.Run

@[expose] public section

set_option maxRecDepth 16384

noncomputable section

namespace Cert.KernelIdeal.Body

open Idealize.ShloMosaic Idealize.ShloMosaic.TcCoe Idealize.SL.Sem
open Cert.KernelIdeal.Gen

/-- The mean over the array of losses. -/
def mean (l : FVec Ideal S10x1x1280 .f32) : FVec Ideal S_ .f32 :=
  Host.divf (Host.reduceAdd l (constant S_ .f32 0x00000000#32) reducesTo_S10x1x1280_S_d0_1_2 h_S_) (constant S_ .f32 0x46480000#32)

/-- A sum over ten rows of 1280 is the sum over all. -/
theorem sum_rows (f : Fin 12800 → EReal) :
    ∑ a : Fin 10, ∑ b : Fin 1280, f ⟨1280 * a.val + b.val, by omega⟩ = ∑ n, f n := by
  rw [← Fintype.sum_prod_type']
  refine Fintype.sum_bijective _ (finProdFinEquiv (m := 10) (n := 1280)).bijective _ _ fun i => ?_
  refine congrArg f (Fin.ext ?_)
  simp [finProdFinEquiv, add_comm]

/-- The mean is the sum over the array divided by the number of anchors. -/
theorem mean_apply (l : FVec Ideal S10x1x1280 .f32) (i : S_.Idx) :
    mean l i = Ideal.div (∑ a : Fin 10, ∑ b : Fin 1280, l (ix3 a 0 b)) (Ideal.ofBits .f32 0x46480000#32) := by
  unfold mean
  pointwise
  simp

variable (m : (ℓ : Loc nD τ sig) → Buf (Elt Ideal) ℓ) (ρ : Dev nD → PrngReg)

/-- The host operations after the grid take the mean of the array of losses. -/
theorem after_mean (W : Valuation τ sig (Elt Ideal)) :
    StableHlo.after (List.flatten [hostOps1]) W (Proc.devRef .tc main_v0) = mean (W (Proc.devRef .tc main_call0_v2)) := by
  rfl

/-- Windows on one array are input windows, which leave it as the grid finds it. -/
theorem shared (c : Dev nD) (w w' : Fin cfg0.W) (hne : w ≠ w') (e : Pipeline.arrRef spec0 w = Pipeline.arrRef spec0 w') :
    (dats m 0 c).arrAt w cfg0.N = V0 m c (Proc.devRef .tc (Pipeline.arrRef spec0 w)) := by
  have hin : (cfg0.win w).isOut = false :=
    (by decide : ∀ w w' : Fin cfg0.W, w ≠ w' → Pipeline.arrRef spec0 w = Pipeline.arrRef spec0 w' →
      (cfg0.win w).isOut = false) w w' hne e
  exact ((dats m 0 c).arrAt_in w hin _).trans (A_eq m c w)

/-- The kernel's result buffer ends at the mean of the array of losses. -/
theorem tail (c : Dev nD) :
    Pipeline.afterTail₀ cfgs (dats m) 0 (V0 m) [hostOps1] c main_v0 = mean (lossArray m c) := by
  unfold Pipeline.afterTail₀
  rw [after_mean]
  refine congrArg mean ?_
  refine (Pipeline.withArrays_arr_shared spec0 c (V0 m c) _ (shared m c) 3).trans ?_
  exact loss_array m c

/-- The mean of the array of losses is the loss. -/
theorem mean_loss (c : Dev nD) : mean (lossArray m c) = fun _ =>
    Spec.result (fun i j k l => anchors m c (ix4 i j k l)) (fun i j k l => embeds m c (ix4 i j k l)) := by
  funext i
  rw [mean_apply]
  exact congrArg (fun x => Ideal.div x _) (sum_rows (lossOf m c))

/-- The kernel's run: it ends with the loss as its result and its arguments unchanged. -/
theorem run : θ_run defs (onTc (τ := τ) (main (F := Ideal))) ⟨m, fun _ => 0, ρ⟩ fun r => ∀ c : Dev nD,
      r.2.mem ((c.tc : Thread nD τ).loc main_v0) = (fun _ =>
        Spec.result (fun i j k l => anchors m c (ix4 i j k l)) (fun i j k l => embeds m c (ix4 i j k l)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).trans ((tail m c).trans (mean_loss m c)), h.2 c⟩)
    (θ_run_and ((θ_run defs _ _).mono (fun _ h c =>
      (h c).2 main_v0 (Pipeline.mem_restRefs_of main_v0 (by decide) (by decide))) (run_main m ρ)) (unchanged m ρ))

end Cert.KernelIdeal.Body

end
-- ==== Proof.Ref.lean ====
/- What the reference computes, in the ideal reading: the mean over all anchors of the loss of each. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Loss

open Idealize.ShloMosaic Idealize.ShloMosaic.TcCoe
open Cert.ReferenceIdeal Cert.ReferenceIdeal.Gen

/-! ## The reference's steps -/

section Steps

variable {F : FTy → Type} [FloatOps F]

/-- A feature map with one row per position. -/
def flat (x : FVec F S2x64x80x80 .f32) : FVec F S12800x64 .f32 :=
  shapeCast _ (transpose S2x80x80x64 [0, 2, 3, 1] x transposes_S2x64x80x80_S2x80x80x64_0_2_3_1)
    shapeCasts_S2x80x80x64_S12800x64

/-- The score of each anchor with its own embedding. -/
def own (a e : FVec F S12800x64 .f32) : FVec F S12800 .f32 :=
  Host.divf (Host.reduceAdd (mulf a e) (constant S_ .f32 0x00000000#32) reducesTo_S12800x64_S12800_d1 h_S_)
    (broadcastInDim S12800 ![] bcast_S_S12800 (constant S_ .f32 0x3DCCCCCD#32))

/-- The score of each anchor with every embedding. -/
def pairs (a e : FVec F S12800x64 .f32) : FVec F S12800x12800 .f32 :=
  Host.divf (Host.dotGeneral dot_S12800x64_S12800x64_S12800x12800_1_1_0_0_n_n none a e)
    (broadcastInDim S12800x12800 ![] bcast_S_S12800x12800 (constant S_ .f32 0x3DCCCCCD#32))

/-- An anchor's own score, then its scores with every embedding. -/
def full (p : FVec F S12800 .f32) (s : FVec F S12800x12800 .f32) : FVec F S12800x12801 .f32 :=
  concatenate S12800x12801 1 [⟨S12800x1, broadcastInDim S12800x1 ![0] bcast_S12800_S12800x1_0 p⟩, ⟨S12800x12800, s⟩]
    concatenates_S12800x1_S12800x12800_S12800x12801_d1

/-- The largest score of each anchor. -/
def highest (u : FVec F S12800x12801 .f32) : FVec F S12800 .f32 :=
  Host.reduce FloatOps.maximumf u (constant S_ .f32 0xFF800000#32) reducesTo_S12800x12801_S12800_d1 h_S_

/-- The sum of each anchor's weights. -/
def total (u : FVec F S12800x12801 .f32) (t : FVec F S12800 .f32) : FVec F S12800 .f32 :=
  Host.reduceAdd (Host.exp (subf u (broadcastInDim S12800x12801 ![0, 1] bcast_S12800x1_S12800x12801_0_1
    (broadcastInDim S12800x1 ![0] bcast_S12800_S12800x1_0 t)))) (constant S_ .f32 0x00000000#32)
    reducesTo_S12800x12801_S12800_d1 h_S_

/-- The loss of each anchor from its own score, its largest score and the sum of its weights. -/
def losses (p t d : FVec F S12800 .f32) : FVec F S12800 .f32 :=
  Host.negf (Host.log (addf (Host.divf (Host.exp (subf p t))
    (addf d (broadcastInDim S12800 ![] bcast_S_S12800 (constant S_ .f32 0x322BCC77#32))))
    (broadcastInDim S12800 ![] bcast_S_S12800 (constant S_ .f32 0x322BCC77#32))))

/-- The mean over the anchors. -/
def mean (l : FVec F S12800 .f32) : FVec F S_ .f32 :=
  Host.divf (Host.reduceAdd l (constant S_ .f32 0x00000000#32) reducesTo_S12800_S_d0 h_S_) (constant S_ .f32 0x46480000#32)

/-- The losses of all anchors. -/
def all (a e : FVec F S12800x64 .f32) : FVec F S12800 .f32 :=
  losses (own a e) (highest (full (own a e) (pairs a e)))
    (total (full (own a e) (pairs a e)) (highest (full (own a e) (pairs a e))))

/-- The reference's result is the mean of the losses. -/
theorem res_eq (m : (ℓ : Loc nD τ sig) → Buf (Elt F) ℓ) (c : Dev nD) :
    Value.res_out0 m c = mean (all (flat (m ((c.tc : Thread nD τ).loc main_arg0))) (flat (m ((c.tc : Thread nD τ).loc main_arg1)))) :=
  rfl

end Steps

/-! ## The steps at an index -/

/-- Row `n` is position `n % 6400` of batch element `n / 6400`. -/
theorem flat_apply (x : FVec Ideal S2x64x80x80 .f32) (n : Fin 12800) (ch : Fin 64) :
    flat x (ix2 n ch) = x (ix4 ⟨n / 6400, by omega⟩ ch ⟨n / 80 % 80, by omega⟩ ⟨n % 80, by omega⟩) := by
  unfold flat
  pointwise

/-- Dividing by the temperature is multiplying by its reciprocal. -/
theorem div_temp (x : EReal) : Ideal.div x (Ideal.ofBits .f32 0x3DCCCCCD#32) = x * ((1 / Consts.temp : ℝ) : EReal) := by
  rw [Consts.ofBits_temp, Ideal.div_coe (by unfold Consts.temp; norm_num)]

/-- An anchor's own score is its product with its own embedding over the temperature. -/
theorem own_apply (a e : FVec Ideal S12800x64 .f32) (n : Fin 12800) :
    own a e (ix1 n) = (∑ ch : Fin 64, a (ix2 n ch) * e (ix2 n ch)) * ((1 / Consts.temp : ℝ) : EReal) := by
  unfold own
  pointwise
  exact div_temp _

/-- The score of anchor `n` with embedding `j` is their product over the temperature. -/
theorem pairs_apply (a e : FVec Ideal S12800x64 .f32) (n j : Fin 12800) :
    pairs a e (ix2 n j) = (∑ ch : Fin 64, a (ix2 n ch) * e (ix2 j ch)) * ((1 / Consts.temp : ℝ) : EReal) := by
  unfold pairs
  pointwise
  exact div_temp _

/-- The first of an anchor's scores is its own. -/
theorem full_zero (p : FVec Ideal S12800 .f32) (s : FVec Ideal S12800x12800 .f32) (n : Fin 12800) :
    full p s (ix2 n 0) = p (ix1 n) := by
  unfold full
  pointwise

/-- The later scores are those with every embedding. -/
theorem full_succ (p : FVec Ideal S12800 .f32) (s : FVec Ideal S12800x12800 .f32) (n j : Fin 12800) :
    full p s (ix2 n j.succ) = s (ix2 n j) := by
  unfold full
  pointwise
  rw [dif_neg (by simp)]
  rfl

/-- The largest score is the supremum of the scores. -/
theorem highest_apply (u : FVec Ideal S12800x12801 .f32) (n : Fin 12800) :
    highest u (ix1 n) = Finset.univ.sup fun j : Fin 12801 => u (ix2 n j) := by
  unfold highest
  pointwise
  rw [Consts.ofBits_neg_inf]
  rfl

/-- The sum of the weights, each relative to the largest score. -/
theorem total_apply (u : FVec Ideal S12800x12801 .f32) (t : FVec Ideal S12800 .f32) (n : Fin 12800) :
    total u t (ix1 n) = ∑ j : Fin 12801, Ideal.exp (u (ix2 n j) - t (ix1 n)) := by
  unfold total
  pointwise

/-- The loss of an anchor: minus the logarithm of its own weight's share. -/
theorem losses_apply (p t d : FVec Ideal S12800 .f32) (n : Fin 12800) :
    losses p t d (ix1 n) = -Ideal.log (Ideal.div (Ideal.exp (p (ix1 n) - t (ix1 n))) (d (ix1 n) + Spec.eps) + Spec.eps) := by
  unfold losses
  pointwise
  rfl

/-- The mean is the sum divided by the number of anchors. -/
theorem mean_apply (l : FVec Ideal S12800 .f32) (i : S_.Idx) :
    mean l i = Ideal.div (∑ n, l (ix1 n)) (Ideal.ofBits .f32 0x46480000#32) := by
  unfold mean
  pointwise

/-! ## The loss of an anchor -/

/-- The products of anchor `n` with every embedding. -/
def product (a e : FVec Ideal S12800x64 .f32) (n j : Fin 12800) : EReal := ∑ ch : Fin 64, e (ix2 j ch) * a (ix2 n ch)

/-- The largest of an anchor's scores is the largest of its scores with the embeddings: its own score is one of them. -/
theorem sup_cons {k : ℕ} (z : Fin (k + 1) → EReal) (i : Fin k) (h : z 0 = z i.succ) :
    Finset.univ.sup z = Finset.univ.sup fun j : Fin k => z j.succ := by
  refine le_antisymm (Finset.sup_le fun j _ => ?_) (Finset.sup_le fun j _ => Finset.le_sup (Finset.mem_univ _))
  induction j using Fin.cases with
  | zero => rw [h]; exact Finset.le_sup (f := fun j : Fin k => z j.succ) (Finset.mem_univ i)
  | succ j => exact Finset.le_sup (f := fun j : Fin k => z j.succ) (Finset.mem_univ j)

/-- The reference's loss of anchor `n` is the loss of its products, its own being the `n`-th. -/
theorem all_apply (a e : FVec Ideal S12800x64 .f32) (n : Fin 12800) :
    all a e (ix1 n) = Spec.anchorLoss (product a e n) n := by
  have hown : own a e (ix1 n) = product a e n n * ((1 / Consts.temp : ℝ) : EReal) := by
    rw [own_apply, product]; simp only [mul_comm]
  have hpair : ∀ j, full (own a e) (pairs a e) (ix2 n j.succ) = product a e n j * ((1 / Consts.temp : ℝ) : EReal) := fun j => by
    rw [full_succ, pairs_apply, product]; simp only [mul_comm]
  have htop : highest (full (own a e) (pairs a e)) (ix1 n) =
      Finset.univ.sup (product a e n) * ((1 / Consts.temp : ℝ) : EReal) := by
    rw [highest_apply, sup_cons _ n (by rw [full_zero, hown, hpair])]
    simp only [hpair]
    exact Math.sup_mul_coe _ _ Consts.inv_temp_pos
  rw [all, losses_apply, total_apply, Fin.sum_univ_succ, full_zero, htop, hown, add_comm (Ideal.exp _)]
  simp only [hpair]
  rfl

/-- The products of the rows of two feature maps are the products of the maps' positions. -/
theorem product_flat (x e : FVec Ideal S2x64x80x80 .f32) (n : Fin 12800) :
    product (flat x) (flat e) n = Spec.product (fun a b c d => x (ix4 a b c d)) (fun a b c d => e (ix4 a b c d)) n := by
  funext j
  simp only [product, flat_apply]
  rfl

/-- The reference's result: the mean of the losses of all anchors. -/
theorem value (m : (ℓ : Loc nD τ sig) → Buf (Elt Ideal) ℓ) (c : Dev nD) :
    Value.res_out0 m c = fun _ => Spec.result (fun i j k l => m ((c.tc : Thread nD τ).loc main_arg0) (ix4 i j k l))
      (fun i j k l => m ((c.tc : Thread nD τ).loc main_arg1) (ix4 i j k l)) := by
  rw [res_eq]
  funext i
  rw [mean_apply]
  simp only [all_apply, product_flat]
  rfl

end Cert.ReferenceIdeal.Loss

end
-- ==== Proof.Claims.lean ====
/- The five claims, each from the run of the programs it speaks of. -/
module

public import proofs.«01_k».proof.Defs
public import proofs.«01_k».proof.Proof.Run
public import proofs.«01_k».proof.Proof.Ref
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Loss

open Idealize.ShloMosaic Idealize.ShloMosaic.TcCoe Idealize.SL.Sem

/-- The kernel as printed terminates, keeps its arguments and leaves every semaphore at zero. -/
theorem kernel_frame : Cert.quiescent_Kernel := fun m ρ _ => Cert.Kernel.Gen.frame m ρ

/-- The idealized kernel terminates, keeps its arguments and leaves every semaphore at zero. -/
theorem ideal_frame : Cert.quiescent_KernelIdeal := fun m ρ _ => Cert.KernelIdeal.Gen.frame m ρ

/-- The reference terminates, keeps its arguments and, having no semaphores, leaves none raised. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The idealized kernel differs from the printed one in two named constants: the scale and the least score. -/
theorem preserved : Cert.preserves_Kernel_KernelIdeal :=
  ⟨IdealRules.named_const.statement Cert.KernelIdeal.κ "scale" .f32 0x4166D4CA#32
      ((((13421773 / 134217728) * (Real.log 2))⁻¹ : ℝ) : EReal) rfl,
    IdealRules.named_const.statement Cert.KernelIdeal.κ "neg_big" .f32 0xC6EA6000#32 ⊥ rfl⟩

/-- On equal arguments the idealized kernel and the reference end with the same loss. -/
theorem equal : Cert.algebraic_KernelIdeal_ReferenceIdeal := by
  intro m g m' g' _ agree
  refine ⟨_, Cert.KernelIdeal.Body.run m g, ?_⟩
  refine (θ_run Cert.ReferenceIdeal.defs _ _).mono (fun r h c => ⟨(h c).1.trans ?_, (h c).2⟩)
    (Cert.ReferenceIdeal.Value.run (F := Ideal) m' g')
  refine (Cert.ReferenceIdeal.Loss.value m' c).trans ?_
  rw [(agree c).1, (agree c).2.1]
  rfl

end Cert.Loss

end
-- ==== Proof.lean ====
/- `Cert.Claim`: the five claims about the contrastive loss kernel, behind the side conditions its programs state.
   Proof/Math.lean has the mathematics of a running maximum and mass, Proof/Spec.lean the loss, Proof/Body.lean,
   Read.lean and Point.lean what one grid point computes, Proof/Array.lean the array the grid leaves, Proof/Run.lean the
   kernel's result, Proof/Ref.lean the reference's, and Proof/Claims.lean the claims. -/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

/-- Everything claimed, with the witnesses of the programs' stated side conditions. -/
theorem claim : Cert.Claim :=
  ⟨Cert.Kernel.Gen.facts, Cert.KernelIdeal.Gen.facts, Cert.ReferenceIdeal.Gen.facts,
    Loss.kernel_frame, Loss.ideal_frame, Loss.reference_frame, Loss.preserved, Loss.equal⟩

end Cert.Proof

end
